-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within [hPre_within : Cert.Pre_within.Facts] (m : (ℓ : Loc Cert.KernelIdeal.nD Cert.KernelIdeal.τ Cert.KernelIdeal.sig) → Buf (Elt Ideal) ℓ) : Prop :=
  ∀ c : Dev Cert.KernelIdeal.nD,
    (Cert.Pre_within.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_within.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_within.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_within.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_within.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within [hPre_within : Cert.Pre_within.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_within.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_within.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_within.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_within.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_within [hKernelIdeal : Cert.KernelIdeal.Facts] [hPre_within : Cert.Pre_within.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_within [hReferenceIdeal : Cert.ReferenceIdeal.Facts] [hPre_within : Cert.Pre_within.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_within [hKernelIdeal : Cert.KernelIdeal.Facts] [hReferenceIdeal : Cert.ReferenceIdeal.Facts] [hPre_within : Cert.Pre_within.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_within : Cert.Pre_within.Facts),
    quiescent_Kernel (hKernel := hKernel)
    ∧ quiescent_KernelIdeal (hKernelIdeal := hKernelIdeal)
    ∧ quiescent_KernelIdeal_pre_within (hKernelIdeal := hKernelIdeal) (hPre_within := hPre_within)
    ∧ quiescent_ReferenceIdeal (hReferenceIdeal := hReferenceIdeal)
    ∧ quiescent_ReferenceIdeal_pre_within (hReferenceIdeal := hReferenceIdeal) (hPre_within := hPre_within)
    ∧ preserves_Kernel_KernelIdeal
    ∧ algebraic_KernelIdeal_ReferenceIdeal_pre_within (hKernelIdeal := hKernelIdeal) (hReferenceIdeal := hReferenceIdeal) (hPre_within := hPre_within)
-- ==== Pre_within.lean ====
abbrev S256x496 : Shape := ⟨2, ![256, 496]⟩
abbrev S256x16 : Shape := ⟨2, ![256, 16]⟩
abbrev S2x8192 : Shape := ⟨2, ![2, 8192]⟩
abbrev S512 : Shape := ⟨1, ![512]⟩
abbrev S1x256 : Shape := ⟨2, ![1, 256]⟩
abbrev S256 : Shape := ⟨1, ![256]⟩
abbrev S256x256 : Shape := ⟨2, ![256, 256]⟩
abbrev S496 : Shape := ⟨1, ![496]⟩
abbrev S_ : Shape := ⟨0, ![]⟩

class Facts : Prop where
  bcast_S_S2x8192 : S_.BroadcastsInDim S2x8192 (![] : Fin 0 → Fin S2x8192.rank)
  bcast_S_S256 : S_.BroadcastsInDim S256 (![] : Fin 0 → Fin S256.rank)
  bcast_S_S256x496 : S_.BroadcastsInDim S256x496 (![] : Fin 0 → Fin S256x496.rank)
  bcast_S_S256x16 : S_.BroadcastsInDim S256x16 (![] : Fin 0 → Fin S256x16.rank)
  bcast_S_S512 : S_.BroadcastsInDim S512 (![] : Fin 0 → Fin S512.rank)

variable [Facts]

def fn {F : FTy → Type} [FloatOps F] (main_arg0 : FVec F S256x496 .f32) (main_arg1 : FVec F S256x16 .f32) (main_arg2 : IVec S2x8192 32) (main_arg3 : FVec F S512 .f32) (main_arg4 : FVec F S1x256 .f32) (main_arg5 : FVec F S256 .f32) (main_arg6 : FVec F S256x256 .f32) (main_arg7 : FVec F S256 .f32) (main_arg8 : FVec F S256x496 .f32) (main_arg9 : FVec F S496 .f32) : IVec S2x8192 1 × IVec S256 1 × IVec S256x496 1 × IVec S256x16 1 × IVec S512 1 :=
  let main_c : IVec S_ 32 := constantI S_ 32 0#32
  let main_v0 : IVec S2x8192 32 := broadcastInDim S2x8192 ![] bcast_S_S2x8192 main_c
  let main_v1 : IVec S2x8192 1 := cmpi .sge main_arg2 main_v0
  let main_c_0 : IVec S_ 32 := constantI S_ 32 512#32
  let main_v2 : IVec S2x8192 32 := broadcastInDim S2x8192 ![] bcast_S_S2x8192 main_c_0
  let main_v3 : IVec S2x8192 1 := cmpi .slt main_arg2 main_v2
  let main_v4 : IVec S2x8192 1 := andi main_v1 main_v3
  let main_cst : FVec F S_ .f32 := constant S_ .f32 0x00000000#32
  let main_v5 : FVec F S256 .f32 := broadcastInDim S256 ![] bcast_S_S256 main_cst
  let main_v6 : IVec S256 1 := cmpf .oeq main_arg5 main_v5
  let main_v7 : FVec F S256x496 .f32 := Host.absf main_arg0
  let main_cst_1 : FVec F S_ .f32 := constant S_ .f32 0x7F800000#32
  let main_v8 : FVec F S256x496 .f32 := broadcastInDim S256x496 ![] bcast_S_S256x496 main_cst_1
  let main_v9 : IVec S256x496 1 := cmpf .olt main_v7 main_v8
  let main_v10 : FVec F S256x16 .f32 := Host.absf main_arg1
  let main_cst_2 : FVec F S_ .f32 := constant S_ .f32 0x7F800000#32
  let main_v11 : FVec F S256x16 .f32 := broadcastInDim S256x16 ![] bcast_S_S256x16 main_cst_2
  let main_v12 : IVec S256x16 1 := cmpf .olt main_v10 main_v11
  let main_v13 : FVec F S512 .f32 := Host.absf main_arg3
  let main_cst_3 : FVec F S_ .f32 := constant S_ .f32 0x7F800000#32
  let main_v14 : FVec F S512 .f32 := broadcastInDim S512 ![] bcast_S_S512 main_cst_3
  let main_v15 : IVec S512 1 := cmpf .olt main_v13 main_v14
  (main_v4, main_v6, main_v9, main_v12, main_v15)
-- ==== Kernel.lean ====
abbrev S256x496 : Shape := ⟨2, ![256, 496]⟩
abbrev S256x16 : Shape := ⟨2, ![256, 16]⟩
abbrev S2x8192 : Shape := ⟨2, ![2, 8192]⟩
abbrev S512 : Shape := ⟨1, ![512]⟩
abbrev S1x256 : Shape := ⟨2, ![1, 256]⟩
abbrev S256 : Shape := ⟨1, ![256]⟩
abbrev S256x256 : Shape := ⟨2, ![256, 256]⟩
abbrev S496 : Shape := ⟨1, ![496]⟩
abbrev S256x512 : Shape := ⟨2, ![256, 512]⟩
abbrev S1x8192 : Shape := ⟨2, ![1, 8192]⟩
abbrev S8192 : Shape := ⟨1, ![8192]⟩
abbrev S8192x1 : Shape := ⟨2, ![8192, 1]⟩
abbrev S1x512 : Shape := ⟨2, ![1, 512]⟩
abbrev S1x496 : Shape := ⟨2, ![1, 496]⟩
abbrev S512x2048 : Shape := ⟨2, ![512, 2048]⟩
abbrev S2048x512 : Shape := ⟨2, ![2048, 512]⟩
abbrev S512x512 : Shape := ⟨2, ![512, 512]⟩
abbrev S1x2048 : Shape := ⟨2, ![1, 2048]⟩
abbrev S2048x1 : Shape := ⟨2, ![2048, 1]⟩
abbrev S1x1x256 : Shape := ⟨3, ![1, 1, 256]⟩
abbrev S256x32 : Shape := ⟨2, ![256, 32]⟩
abbrev S256x32x1 : Shape := ⟨3, ![256, 32, 1]⟩
abbrev S256x32x256 : Shape := ⟨3, ![256, 32, 256]⟩

abbrev nBuf : Space → Nat
  | .hbm => 21
  | .vmem => 11
  | .smem => 0
  | _ => 0

abbrev bufTy : (tb : Table) → Fin (tcTables nBuf tb) → BufTy
  | .hbm, ⟨0, _⟩ => ⟨S256x496, .f32⟩
  | .hbm, ⟨1, _⟩ => ⟨S256x16, .f32⟩
  | .hbm, ⟨2, _⟩ => ⟨S2x8192, .i32⟩
  | .hbm, ⟨3, _⟩ => ⟨S512, .f32⟩
  | .hbm, ⟨4, _⟩ => ⟨S1x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x496, .f32⟩
  | .hbm, ⟨9, _⟩ => ⟨S496, .f32⟩
  | .hbm, ⟨10, _⟩ => ⟨S256x512, .f32⟩
  | .hbm, ⟨11, _⟩ => ⟨S1x8192, .i32⟩
  | .hbm, ⟨12, _⟩ => ⟨S8192, .i32⟩
  | .hbm, ⟨13, _⟩ => ⟨S1x8192, .i32⟩
  | .hbm, ⟨14, _⟩ => ⟨S1x8192, .i32⟩
  | .hbm, ⟨15, _⟩ => ⟨S8192, .i32⟩
  | .hbm, ⟨16, _⟩ => ⟨S8192x1, .i32⟩
  | .hbm, ⟨17, _⟩ => ⟨S1x512, .f32⟩
  | .hbm, ⟨18, _⟩ => ⟨S1x256, .f32⟩
  | .hbm, ⟨19, _⟩ => ⟨S1x496, .f32⟩
  | .hbm, ⟨20, _⟩ => ⟨S256x496, .f32⟩
  | .local _ .vmem, ⟨0, _⟩ => ⟨S256x512, .f32⟩
  | .local _ .vmem, ⟨1, _⟩ => ⟨S1x512, .f32⟩
  | .local _ .vmem, ⟨2, _⟩ => ⟨S1x8192, .i32⟩
  | .local _ .vmem, ⟨3, _⟩ => ⟨S8192x1, .i32⟩
  | .local _ .vmem, ⟨4, _⟩ => ⟨S1x256, .f32⟩
  | .local _ .vmem, ⟨5, _⟩ => ⟨S256x256, .f32⟩
  | .local _ .vmem, ⟨6, _⟩ => ⟨S1x256, .f32⟩
  | .local _ .vmem, ⟨7, _⟩ => ⟨S256x496, .f32⟩
  | .local _ .vmem, ⟨8, _⟩ => ⟨S1x496, .f32⟩
  | .local _ .vmem, ⟨9, _⟩ => ⟨S256x496, .f32⟩
  | .local _ .vmem, ⟨10, _⟩ => ⟨S256x496, .f32⟩
  | _, _ => ⟨S256x496, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x496 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x496 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x496 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x496 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ReferenceIdeal.lean ====
abbrev S256x496 : Shape := ⟨2, ![256, 496]⟩
abbrev S256x16 : Shape := ⟨2, ![256, 16]⟩
abbrev S2x8192 : Shape := ⟨2, ![2, 8192]⟩
abbrev S512 : Shape := ⟨1, ![512]⟩
abbrev S1x256 : Shape := ⟨2, ![1, 256]⟩
abbrev S256 : Shape := ⟨1, ![256]⟩
abbrev S256x256 : Shape := ⟨2, ![256, 256]⟩
abbrev S496 : Shape := ⟨1, ![496]⟩
abbrev S256x512 : Shape := ⟨2, ![256, 512]⟩
abbrev S1x512 : Shape := ⟨2, ![1, 512]⟩
abbrev S256x512x1 : Shape := ⟨3, ![256, 512, 1]⟩
abbrev S1x8192 : Shape := ⟨2, ![1, 8192]⟩
abbrev S8192 : Shape := ⟨1, ![8192]⟩
abbrev S_ : Shape := ⟨0, ![]⟩
abbrev S8192x1 : Shape := ⟨2, ![8192, 1]⟩
abbrev S256x8192x1 : Shape := ⟨3, ![256, 8192, 1]⟩
abbrev S256x512x256 : Shape := ⟨3, ![256, 512, 256]⟩
abbrev S1x1x256 : Shape := ⟨3, ![1, 1, 256]⟩
abbrev S256x8192x256 : Shape := ⟨3, ![256, 8192, 256]⟩
abbrev S1x496 : Shape := ⟨2, ![1, 496]⟩

abbrev nBuf : Space → Nat
  | .hbm => 83
  | .vmem => 0
  | .smem => 0
  | _ => 0

abbrev bufTy : (tb : Table) → Fin (tcTables nBuf tb) → BufTy
  | .hbm, ⟨0, _⟩ => ⟨S256x496, .f32⟩
  | .hbm, ⟨1, _⟩ => ⟨S256x16, .f32⟩
  | .hbm, ⟨2, _⟩ => ⟨S2x8192, .i32⟩
  | .hbm, ⟨3, _⟩ => ⟨S512, .f32⟩
  | .hbm, ⟨4, _⟩ => ⟨S1x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x496, .f32⟩
  | .hbm, ⟨9, _⟩ => ⟨S496, .f32⟩
  | .hbm, ⟨10, _⟩ => ⟨S256x512, .f32⟩
  | .hbm, ⟨11, _⟩ => ⟨S1x512, .f32⟩
  | .hbm, ⟨12, _⟩ => ⟨S256x512, .f32⟩
  | .hbm, ⟨13, _⟩ => ⟨S256x512, .f32⟩
  | .hbm, ⟨14, _⟩ => ⟨S256x512x1, .f32⟩
  | .hbm, ⟨15, _⟩ => ⟨S1x8192, .i32⟩
  | .hbm, ⟨16, _⟩ => ⟨S8192, .i32⟩
  | .hbm, ⟨17, _⟩ => ⟨S1x8192, .i32⟩
  | .hbm, ⟨18, _⟩ => ⟨S8192, .i32⟩
  | .hbm, ⟨19, _⟩ => ⟨S_, .f32⟩
  | .hbm, ⟨20, _⟩ => ⟨S256x512x1, .f32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S8192x1, .i32⟩
  | .hbm, ⟨29, _⟩ => ⟨S256x8192x1, .f32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .i32⟩
  | .hbm, ⟨37, _⟩ => ⟨S8192x1, .i32⟩
  | .hbm, ⟨38, _⟩ => ⟨S256x512x1, .f32⟩
  | .hbm, ⟨39, _⟩ => ⟨S256x512x256, .f32⟩
  | .hbm, ⟨40, _⟩ => ⟨S1x1x256, .f32⟩
  | .hbm, ⟨41, _⟩ => ⟨S256x512x256, .f32⟩
  | .hbm, ⟨42, _⟩ => ⟨S256x512x256, .f32⟩
  | .hbm, ⟨43, _⟩ => ⟨S_, .f32⟩
  | .hbm, ⟨44, _⟩ => ⟨S256x512x256, .f32⟩
  | .hbm, ⟨45, _⟩ => ⟨S256x512x256, .f32⟩
  | .hbm, ⟨46, _⟩ => ⟨S_, .f32⟩
  | .hbm, ⟨47, _⟩ => ⟨S256x512x256, .f32⟩
  | .hbm, ⟨48, _⟩ => ⟨S_, .i32⟩
  | .hbm, ⟨49, _⟩ => ⟨S8192, .i32⟩
  | .hbm, ⟨50, _⟩ => ⟨S8192, .i1⟩
  | .hbm, ⟨51, _⟩ => ⟨S_, .i32⟩
  | .hbm, ⟨52, _⟩ => ⟨S8192, .i32⟩
  | .hbm, ⟨53, _⟩ => ⟨S8192, .i32⟩
  | .hbm, ⟨54, _⟩ => ⟨S8192, .i32⟩
  | .hbm, ⟨55, _⟩ => ⟨S8192x1, .i32⟩
  | .hbm, ⟨56, _⟩ => ⟨S256x8192x256, .f32⟩
  | .hbm, ⟨57, _⟩ => ⟨S_, .i32⟩
  | .hbm, ⟨58, _⟩ => ⟨S8192, .i32⟩
  | .hbm, ⟨59, _⟩ => ⟨S8192, .i1⟩
  | .hbm, ⟨60, _⟩ => ⟨S_, .i32⟩
  | .hbm, ⟨61, _⟩ => ⟨S8192, .i32⟩
  | .hbm, ⟨62, _⟩ => ⟨S8192, .i32⟩
  | .hbm, ⟨63, _⟩ => ⟨S8192, .i32⟩
  | .hbm, ⟨64, _⟩ => ⟨S8192x1, .i32⟩
  | .hbm, ⟨65, _⟩ => ⟨S256x512x256, .f32⟩
  | .hbm, ⟨66, _⟩ => ⟨S256x512x256, .f32⟩
  | .hbm, ⟨67, _⟩ => ⟨S1x1x256, .f32⟩
  | .hbm, ⟨68, _⟩ => ⟨S256x512x256, .f32⟩
  | .hbm, ⟨69, _⟩ => ⟨S256x512x256, .f32⟩
  | .hbm, ⟨70, _⟩ => ⟨S_, .f32⟩
  | .hbm, ⟨71, _⟩ => ⟨S256x512x256, .f32⟩
  | .hbm, ⟨72, _⟩ => ⟨S256x512x256, .f32⟩
  | .hbm, ⟨73, _⟩ => ⟨S_, .f32⟩
  | .hbm, ⟨74, _⟩ => ⟨S256x256, .f32⟩
  | .hbm, ⟨75, _⟩ => ⟨S_, .f32⟩
  | .hbm, ⟨76, _⟩ => ⟨S256x256, .f32⟩
  | .hbm, ⟨77, _⟩ => ⟨S256x256, .f32⟩
  | .hbm, ⟨78, _⟩ => ⟨S256x496, .f32⟩
  | .hbm, ⟨79, _⟩ => ⟨S1x496, .f32⟩
  | .hbm, ⟨80, _⟩ => ⟨S256x496, .f32⟩
  | .hbm, ⟨81, _⟩ => ⟨S256x496, .f32⟩
  | .hbm, ⟨82, _⟩ => ⟨S256x496, .f32⟩
  | _, _ => ⟨S256x496, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_cst : Ref sig .tc := ⟨.hbm, 43, rfl⟩
abbrev main_call0_v0 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]
-- ==== Proof.Algebra.lean ====
module

public import Mathlib.Data.EReal.Inv
public import Mathlib.Algebra.Order.BigOperators.Group.Finset
public import Mathlib.Algebra.BigOperators.Group.Finset.Basic

/-! # Sums of extended reals along the edges of a graph

Every edge `e` runs from the node `src e` to the node `dst e`. A node gathers what the sources of the edges that end
in it hold (`gathered`). The reference gathers edge by edge; the kernel multiplies by the matrix whose entry at two
nodes counts the edges between them. The lemmas here are what makes both the same over the extended reals, where a
product distributes over a sum only under a condition on signs or on finiteness. -/

@[expose] public section

noncomputable section

namespace Cert.Graph

open Finset

variable {ε ν κ : Type} [Fintype ε] [Fintype ν] [Fintype κ] [DecidableEq ν]

/-- What node `n` gathers of `x`: the sum of `x` at the sources of the edges that end in `n`. -/
def gathered (src dst : ε → ν) (x : ν → EReal) (n : ν) : EReal :=
  ∑ e, if dst e = n then x (src e) else 0

/-- The number of edges from `s` to `n`, as the extended real the kernel forms it: a sum of products of two
    indicators. -/
def edges (src dst : ε → ν) (s n : ν) : EReal :=
  ∑ e, (if src e = s then (1 : EReal) else 0) * (if dst e = n then (1 : EReal) else 0)

/-- An indicator is not negative. -/
theorem indicator_nonneg (p : Prop) [Decidable p] : (0 : EReal) ≤ if p then (1 : EReal) else 0 := by
  split
  · exact zero_le_one
  · exact le_refl _

/-- A factor goes into a sum of terms that are not negative. -/
theorem mul_sum_of_nonneg (c : EReal) (f : κ → EReal) (hf : ∀ k, 0 ≤ f k) : c * ∑ k, f k = ∑ k, c * f k := by
  classical
  suffices h : ∀ t : Finset κ, c * ∑ k ∈ t, f k = ∑ k ∈ t, c * f k from h _
  intro t
  induction t using Finset.induction_on with
  | empty => simp
  | insert a t ha ih =>
    rw [sum_insert ha, sum_insert ha, EReal.left_distrib_of_nonneg (hf a) (sum_nonneg fun k _ => hf k), ih]

/-- A finite factor that is not negative goes into any sum. -/
theorem mul_sum_of_finite (c : EReal) (h0 : 0 ≤ c) (h1 : c ≠ ⊤) (f : κ → EReal) : c * ∑ k, f k = ∑ k, c * f k := by
  classical
  suffices h : ∀ t : Finset κ, c * ∑ k ∈ t, f k = ∑ k ∈ t, c * f k from h _
  intro t
  induction t using Finset.induction_on with
  | empty => simp
  | insert a t ha ih => rw [sum_insert ha, sum_insert ha, EReal.left_distrib_of_nonneg_of_ne_top h0 h1, ih]

/-- Multiplying by the matrix that counts the edges is gathering along them. -/
theorem sum_mul_edges (src dst : ε → ν) (x : ν → EReal) (n : ν) :
    ∑ s, x s * edges src dst s n = gathered src dst x n := by
  unfold edges gathered
  simp only [mul_sum_of_nonneg _ _ fun e => mul_nonneg (indicator_nonneg _) (indicator_nonneg _)]
  rw [sum_comm]
  refine sum_congr rfl fun e _ => ?_
  rw [sum_eq_single (src e)]
  · rw [if_pos rfl, one_mul]
    split
    · rw [mul_one]
    · rw [mul_zero]
  · intro s _ hs
    rw [if_neg (Ne.symm hs), zero_mul, mul_zero]
  · exact fun h => absurd (mem_univ _) h

/-- What is gathered of values that are not negative is not negative. -/
theorem gathered_nonneg (src dst : ε → ν) (x : ν → EReal) (hx : ∀ s, 0 ≤ x s) (n : ν) : 0 ≤ gathered src dst x n := by
  refine sum_nonneg fun e _ => ?_
  split
  · exact hx _
  · exact le_refl _

/-- A finite sum of values below `⊤` is below `⊤`. -/
theorem sum_ne_top (f : κ → EReal) (hf : ∀ k, f k ≠ ⊤) : ∑ k, f k ≠ ⊤ :=
  sum_induction f (fun a => a ≠ ⊤) (fun _ _ ha hb => EReal.add_ne_top ha hb) EReal.zero_ne_top fun k _ => hf k

/-- A finite sum of values above `⊥` is above `⊥`. -/
theorem sum_ne_bot (f : κ → EReal) (hf : ∀ k, f k ≠ ⊥) : ∑ k, f k ≠ ⊥ :=
  sum_induction f (fun a => a ≠ ⊥) (fun _ _ ha hb => EReal.add_ne_bot_iff.2 ⟨ha, hb⟩) EReal.zero_ne_bot fun k _ => hf k

/-- What is gathered of values below `⊤` is below `⊤`. -/
theorem gathered_ne_top (src dst : ε → ν) (x : ν → EReal) (hx : ∀ s, x s ≠ ⊤) (n : ν) : gathered src dst x n ≠ ⊤ := by
  refine sum_ne_top _ fun e => ?_
  split
  · exact hx _
  · exact EReal.zero_ne_top

/-- What is gathered of values above `⊥` is above `⊥`. -/
theorem gathered_ne_bot (src dst : ε → ν) (x : ν → EReal) (hx : ∀ s, x s ≠ ⊥) (n : ν) : gathered src dst x n ≠ ⊥ := by
  refine sum_ne_bot _ fun e => ?_
  split
  · exact hx _
  · exact EReal.zero_ne_bot

/-- The positive part. -/
def pos (x : EReal) : EReal := max x 0
/-- The negative part, turned positive. -/
def neg (x : EReal) : EReal := max (0 - x) 0

theorem pos_nonneg (x : EReal) : 0 ≤ pos x := le_max_right _ _
theorem neg_nonneg (x : EReal) : 0 ≤ neg x := le_max_right _ _

theorem pos_of_nonneg {x : EReal} (h : 0 ≤ x) : pos x = x := max_eq_left h
theorem pos_of_nonpos {x : EReal} (h : x ≤ 0) : pos x = 0 := max_eq_right h

theorem neg_of_nonneg {x : EReal} (h : 0 ≤ x) : neg x = 0 := by
  unfold neg
  rw [zero_sub]
  exact max_eq_right (by simpa using EReal.neg_le_neg_iff.2 h)

theorem neg_of_nonpos {x : EReal} (h : x ≤ 0) : neg x = -x := by
  unfold neg
  rw [zero_sub]
  exact max_eq_left (by simpa using EReal.neg_le_neg_iff.2 h)

/-- The positive part of a value below `⊤` is below `⊤`. -/
theorem pos_ne_top {x : EReal} (h : x ≠ ⊤) : pos x ≠ ⊤ := by
  unfold pos
  rcases max_cases x 0 with ⟨e, _⟩ | ⟨e, _⟩ <;> rw [e]
  · exact h
  · exact EReal.zero_ne_top

/-- The negative part of a value above `⊥` is below `⊤`. -/
theorem neg_ne_top {x : EReal} (h : x ≠ ⊥) : neg x ≠ ⊤ := by
  unfold neg
  rw [zero_sub]
  rcases max_cases (-x) 0 with ⟨e, _⟩ | ⟨e, _⟩ <;> rw [e]
  · exact fun e => h (EReal.neg_eq_top_iff.1 e)
  · exact EReal.zero_ne_top

/-- The positive part of a product: what the two positive parts give and what the two negative parts give. -/
theorem pos_mul (r w : EReal) : pos (r * w) = pos r * pos w + neg r * neg w := by
  rcases le_total 0 r with hr | hr <;> rcases le_total 0 w with hw | hw
  · rw [pos_of_nonneg (mul_nonneg hr hw), pos_of_nonneg hr, pos_of_nonneg hw, neg_of_nonneg hr, zero_mul, add_zero]
  · rw [pos_of_nonneg hr, pos_of_nonpos hw, neg_of_nonneg hr, zero_mul, mul_zero, add_zero]
    exact pos_of_nonpos (EReal.mul_nonpos_iff.2 (Or.inl ⟨hr, hw⟩))
  · rw [pos_of_nonpos hr, neg_of_nonneg hw, zero_mul, mul_zero, add_zero]
    exact pos_of_nonpos (EReal.mul_nonpos_iff.2 (Or.inr ⟨hr, hw⟩))
  · have h : 0 ≤ r * w := EReal.mul_nonneg_iff.2 (Or.inr ⟨hr, hw⟩)
    rw [pos_of_nonneg h, pos_of_nonpos hr, pos_of_nonpos hw, neg_of_nonpos hr, neg_of_nonpos hw, zero_mul, zero_add,
      neg_mul_neg]

/-- Gathering a mixture of two families that are not negative mixes what is gathered of each. -/
theorem gathered_mix (src dst : ε → ν) (p q : ν → EReal) (hp : ∀ s, 0 ≤ p s) (hq : ∀ s, 0 ≤ q s) (u v : EReal) (n : ν) :
    gathered src dst (fun s => p s * u + q s * v) n = gathered src dst p n * u + gathered src dst q n * v := by
  have hif : ∀ (f : ν → EReal), (∀ s, 0 ≤ f s) → ∀ e, (0 : EReal) ≤ if dst e = n then f (src e) else 0 := by
    intro f hf e
    split
    · exact hf _
    · exact le_refl _
  unfold gathered
  rw [mul_comm _ u, mul_comm _ v, mul_sum_of_nonneg u _ (hif p hp), mul_sum_of_nonneg v _ (hif q hq), ← sum_add_distrib]
  refine sum_congr rfl fun e _ => ?_
  split
  · rw [mul_comm u, mul_comm v]
  · rw [mul_zero, mul_zero, add_zero]

/-- A mixture of two families that are not negative, with finite weights that are not negative, summed against any
    third family: the weights come out. -/
theorem sum_mix_mul (P Q : EReal) (hP : 0 ≤ P) (hP' : P ≠ ⊤) (hQ : 0 ≤ Q) (hQ' : Q ≠ ⊤) (u v W : κ → EReal)
    (hu : ∀ k, 0 ≤ u k) (hv : ∀ k, 0 ≤ v k) :
    ∑ k, (P * u k + Q * v k) * W k = P * ∑ k, u k * W k + Q * ∑ k, v k * W k := by
  rw [mul_sum_of_finite P hP hP', mul_sum_of_finite Q hQ hQ', ← sum_add_distrib]
  refine sum_congr rfl fun k _ => ?_
  rw [EReal.right_distrib_of_nonneg (mul_nonneg hP (hu k)) (mul_nonneg hQ (hv k)), mul_assoc, mul_assoc]

/-- THE TWO LAYERS. What the second layer makes of the first layer's rectified output, gathered, is a mixture of two
    fixed rows, weighted by what is gathered of the positive and of the negative parts of the first gathering. -/
theorem two_layers (src dst : ε → ν) (a : ν → EReal) (ha : ∀ s, a s ≠ ⊤) (ha' : ∀ s, a s ≠ ⊥) (w W : κ → EReal) (n : ν) :
    ∑ k, gathered src dst (fun s => pos (a s * w k)) n * W k
      = gathered src dst (fun s => pos (a s)) n * ∑ k, pos (w k) * W k
        + gathered src dst (fun s => neg (a s)) n * ∑ k, neg (w k) * W k := by
  simp only [pos_mul, gathered_mix src dst (fun s => pos (a s)) (fun s => neg (a s)) (fun s => pos_nonneg _) (fun s => neg_nonneg _)]
  exact sum_mix_mul _ _ (gathered_nonneg _ _ _ (fun s => pos_nonneg _) n) (gathered_ne_top _ _ _ (fun s => pos_ne_top (ha s)) n)
    (gathered_nonneg _ _ _ (fun s => neg_nonneg _) n) (gathered_ne_top _ _ _ (fun s => neg_ne_top (ha' s)) n) _ _ _
    (fun k => pos_nonneg _) (fun k => neg_nonneg _)

end Cert.Graph

end

end
-- ==== Proof.Spec.lean ====
module

public import proofs.«01_k».proof.Proof.Algebra
public import Idealize.ShloMosaic.Lib.Pointwise

/-! # The network as plain functions

The arguments are read at plain coordinates: 256 graphs in the batch, 512 nodes, 8192 edges, 256 hidden units, 496
outputs. `hiddenR` is a hidden unit as the reference computes it and `hiddenK` as the kernel does. -/

@[expose] public section

noncomputable section

namespace Cert.Graph

open Idealize.ShloMosaic

/-- The masked node features: of the state on the first 496 nodes and of the action on the last 16, times the mask. -/
def masked (state : FVec Ideal ⟨2, ![256, 496]⟩ .f32) (action : FVec Ideal ⟨2, ![256, 16]⟩ .f32) (mask : FVec Ideal ⟨1, ![512]⟩ .f32)
    (b : Fin 256) (s : Fin 512) : EReal :=
  (if h : s.val < 496 then state (ix2 b ⟨s.val, h⟩) else action (ix2 b ⟨s.val - 496, by omega⟩)) * mask (ix1 s)

/-- One hidden unit of one node after the second layer, as the reference computes it: the masked features gathered, the
    first layer, gathered again, the second layer. -/
def hiddenR (src dst : Fin 8192 → Fin 512) (x : Fin 512 → EReal) (W1 : FVec Ideal ⟨2, ![1, 256]⟩ .f32) (b1 : FVec Ideal ⟨1, ![256]⟩ .f32)
    (W2 : FVec Ideal ⟨2, ![256, 256]⟩ .f32) (b2 : FVec Ideal ⟨1, ![256]⟩ .f32) (n : Fin 512) (j : Fin 256) : EReal :=
  pos ((∑ k : Fin 256, gathered src dst (fun s => pos (gathered src dst x s * W1 (ix2 0 k) + b1 (ix1 k))) n * W2 (ix2 k j)) + b2 (ix1 j))

/-- The same hidden unit as the kernel computes it: two rows made of the weights alone, mixed by what is gathered of the
    positive and of the negative parts of the features gathered. -/
def hiddenK (src dst : Fin 8192 → Fin 512) (x : Fin 512 → EReal) (W1 : FVec Ideal ⟨2, ![1, 256]⟩ .f32)
    (W2 : FVec Ideal ⟨2, ![256, 256]⟩ .f32) (b2 : FVec Ideal ⟨1, ![256]⟩ .f32) (n : Fin 512) (j : Fin 256) : EReal :=
  pos ((gathered src dst (fun s => pos (gathered src dst x s)) n * (∑ k : Fin 256, pos (W1 (ix2 0 k)) * W2 (ix2 k j))
    + gathered src dst (fun s => neg (gathered src dst x s)) n * (∑ k : Fin 256, neg (W1 (ix2 0 k)) * W2 (ix2 k j))) + b2 (ix1 j))

/-- The last layer: the mean over the nodes, given as `mean j`, times the output weights, the bias and the state added. -/
def readOut (mean : Fin 256 → EReal) (Wout : FVec Ideal ⟨2, ![256, 496]⟩ .f32) (bout : FVec Ideal ⟨1, ![496]⟩ .f32)
    (state : FVec Ideal ⟨2, ![256, 496]⟩ .f32) (b : Fin 256) (o : Fin 496) : EReal :=
  ((∑ j : Fin 256, mean j * Wout (ix2 j o)) + bout (ix1 o)) + state (ix2 b o)

end Cert.Graph

end

end
-- ==== Proof.KerNodes.lean ====
module

public import proofs.«01_k».proof.Proof.Gen.KernelIdeal.Skeleton
public import proofs.«01_k».proof.Proof.Spec

/-! # The kernel's sum over the nodes, block by block

The kernel adds the rectified second layer of 32 nodes at a time to an accumulator, in 16 blocks written out one after
another. After the blocks that end at node `m` the accumulator holds the sum over the nodes below `m`. -/

@[expose] public section

set_option maxRecDepth 16384

noncomputable section

namespace Cert.KernelAt

open Idealize.ShloMosaic Idealize.ShloMosaic.TcCoe Idealize.SL.Sem
open Cert.KernelIdeal Cert.KernelIdeal.Gen Cert.Graph

/-- The sum of `f` over the nodes below `m`. -/
def before (f : Fin 512 → EReal) (m : ℕ) (h : m ≤ 512) : EReal := ∑ k : Fin m, f ⟨k.val, lt_of_lt_of_le k.isLt h⟩

theorem before_zero (f : Fin 512 → EReal) : before f 0 (Nat.zero_le _) = 0 := by
  unfold before
  exact Finset.sum_empty

theorem before_all (f : Fin 512 → EReal) : before f 512 le_rfl = ∑ n, f n := rfl

/-- One block of 32 nodes more. -/
theorem before_step (f : Fin 512 → EReal) (m : ℕ) (h : m + 32 ≤ 512) :
    before f m (Nat.le_of_add_right_le h) + ∑ t : Fin 32, f ⟨m + t.val, lt_of_lt_of_le (Nat.add_lt_add_left t.isLt m) h⟩
      = before f (m + 32) h := by
  unfold before
  rw [Fin.sum_univ_add]
  rfl

variable (p q : FVec Ideal S256x512 .f32) (cu cv c : FVec Ideal S1x1x256 .f32)

/-- The rectified second layer of node `n`, from the kernel's two mixtures. -/
def unit (b j : Fin 256) (n : Fin 512) : EReal :=
  max ((p (ix2 b n) * cu (ix3 0 0 j) + q (ix2 b n) * cv (ix3 0 0 j)) + c (ix3 0 0 j)) 0

/-- Blocks 0 and 1. -/
theorem pay13_at (u v : FVec Ideal S1x256 .f32) (W : FVec Ideal S256x256 .f32) (d : FVec Ideal S1x256 .f32) (b j : Fin 256) :
    k0_pay13 (F := Ideal) p q u v W W d (ix2 b j)
      = before (unit p q (k0_pay10 (F := Ideal) u W) (k0_pay11 (F := Ideal) v W) (k0_pay12 (F := Ideal) d) b j) 64 (by decide) := by
  rw [← before_step _ 32 (by decide), ← before_step _ 0 (by decide), before_zero]
  pointwise [k0_pay13, unit]

/-- Blocks 2, 3 and 4. -/
theorem pay16_at (acc : FVec Ideal S256x256 .f32) (b j : Fin 256) (ha : acc (ix2 b j) = before (unit p q cu cv c b j) 64 (by decide)) :
    k0_pay16 (F := Ideal) p q cu cv c acc (k0_pay14 (F := Ideal) p) (k0_pay15 (F := Ideal) q) (ix2 b j)
      = before (unit p q cu cv c b j) 160 (by decide) := by
  rw [← before_step _ 128 (by decide), ← before_step _ 96 (by decide), ← before_step _ 64 (by decide), ← ha]
  pointwise [k0_pay16, k0_pay14, k0_pay15, unit]

/-- Blocks 5, 6 and 7. -/
theorem pay20_at (acc : FVec Ideal S256x256 .f32) (b j : Fin 256) (ha : acc (ix2 b j) = before (unit p q cu cv c b j) 160 (by decide)) :
    k0_pay20 (F := Ideal) p q cu cv c acc (k0_pay17 (F := Ideal) q) (k0_pay18 (F := Ideal) p) (k0_pay19 (F := Ideal) cu) (ix2 b j)
      = before (unit p q cu cv c b j) 256 (by decide) := by
  rw [← before_step _ 224 (by decide), ← before_step _ 192 (by decide), ← before_step _ 160 (by decide), ← ha]
  pointwise [k0_pay20, k0_pay17, k0_pay18, k0_pay19, unit]

/-- Blocks 8, 9 and 10. -/
theorem pay24_at (acc : FVec Ideal S256x256 .f32) (b j : Fin 256) (ha : acc (ix2 b j) = before (unit p q cu cv c b j) 256 (by decide)) :
    k0_pay24 (F := Ideal) p q cu cv c acc (k0_pay21 (F := Ideal) p cu) (k0_pay22 (F := Ideal) q) (k0_pay23 (F := Ideal) cv) (ix2 b j)
      = before (unit p q cu cv c b j) 352 (by decide) := by
  rw [← before_step _ 320 (by decide), ← before_step _ 288 (by decide), ← before_step _ 256 (by decide), ← ha]
  pointwise [k0_pay24, k0_pay21, k0_pay22, k0_pay23, unit]

/-- Blocks 11, 12 and 13. -/
theorem pay27_at (acc : FVec Ideal S256x256 .f32) (b j : Fin 256) (ha : acc (ix2 b j) = before (unit p q cu cv c b j) 352 (by decide)) :
    k0_pay27 (F := Ideal) p q cu cv c acc (k0_pay25 (F := Ideal) p q cu cv) (k0_pay26 (F := Ideal) c) (ix2 b j)
      = before (unit p q cu cv c b j) 448 (by decide) := by
  rw [← before_step _ 416 (by decide), ← before_step _ 384 (by decide), ← before_step _ 352 (by decide), ← ha]
  pointwise [k0_pay27, k0_pay25, k0_pay26, unit]

/-- Blocks 14 and 15, the mean over the nodes and the last layer: what the kernel stores at `(b, o)`. -/
theorem pay1_at (acc : FVec Ideal S256x256 .f32) (Wout : FVec Ideal S256x496 .f32) (bout : FVec Ideal S1x496 .f32)
    (state : FVec Ideal S256x496 .f32) (b : Fin 256) (o : Fin 496)
    (ha : ∀ j, acc (ix2 b j) = before (unit p q cu cv c b j) 448 (by decide)) :
    k0_pay1 (F := Ideal) p q cu cv c acc (k0_pay28 (F := Ideal) p q cu cv c) (k0_pay29 (F := Ideal)) Wout bout state (ix2 b o)
      = ((∑ j : Fin 256, ((∑ n, unit p q cu cv c b j n) * Ideal.ofBits .f32 0x3B000000#32) * Wout (ix2 j o)) + bout (ix2 0 o)) + state (ix2 b o) := by
  simp only [← before_all]
  simp only [← before_step _ 480 (by decide), ← before_step _ 448 (by decide), ← ha]
  pointwise [k0_pay1, k0_pay28, k0_pay29, unit]

end Cert.KernelAt

end

end
-- ==== Proof.KerEdges.lean ====
module

public import proofs.«01_k».proof.Proof.Gen.KernelIdeal.Skeleton
public import proofs.«01_k».proof.Proof.Spec

/-! # The kernel's edge-counting matrix and what it multiplies

The kernel compares node numbers with the ends of the edges, 2048 edges at a time, and multiplies the two tables of
zeros and ones; the four products added up count the edges between two nodes. -/

@[expose] public section

set_option maxRecDepth 16384

noncomputable section

namespace Cert.KernelAt

open Idealize.ShloMosaic Idealize.ShloMosaic.TcCoe Idealize.SL.Sem
open Cert.KernelIdeal Cert.KernelIdeal.Gen Cert.Graph

/-- Numbers below 512 are equal when their words are. -/
theorem word_inj (s t : Fin 512) (h : BitVec.ofNat 32 s.val = BitVec.ofNat 32 t.val) : s = t := by
  have h' := congrArg BitVec.toNat h
  rw [BitVec.toNat_ofNat, BitVec.toNat_ofNat] at h'
  exact Fin.ext (by omega)

/-- A comparison of two node numbers, widened and made a float: one when they are equal, else zero. -/
theorem oneHot (s t : Fin 512) :
    FloatOps.sitofp (F := Ideal) .f32 (BitVec.setWidth 32 (IntOp.cmpi .eq (BitVec.ofNat 32 s.val) (BitVec.ofNat 32 t.val)))
      = if t = s then (1 : EReal) else 0 := by
  show (((BitVec.setWidth 32 (IntOp.cmpi .eq (BitVec.ofNat 32 s.val) (BitVec.ofNat 32 t.val))).toInt : ℝ) : EReal) = _
  by_cases h : t = s
  · subst h
    rw [if_pos rfl]
    simp [IntOp.cmpi]
  · rw [if_neg h]
    have h' : BitVec.ofNat 32 s.val ≠ BitVec.ofNat 32 t.val := fun e => h (word_inj s t e).symm
    rw [show IntOp.cmpi .eq (BitVec.ofNat 32 s.val) (BitVec.ofNat 32 t.val) = 0#1 from by
      unfold IntOp.cmpi
      rw [beq_eq_false_iff_ne.2 h']
      rfl]
    simp

/-- The kernel's blocks of 2048 edges, as the loads give them, hold the ends of the edges. -/
structure Ends (src dst : Fin 8192 → Fin 512) (v : Fin 4 → IVec S1x2048 32) (w : Fin 4 → IVec S2048x1 32) : Prop where
  src_eq : ∀ (k : Fin 4) (x : Fin 2048), v k (ix2 0 x) = BitVec.ofNat 32 (src ⟨k.val * 2048 + x.val, by omega⟩).val
  dst_eq : ∀ (k : Fin 4) (x : Fin 2048), w k (ix2 x 0) = BitVec.ofNat 32 (dst ⟨k.val * 2048 + x.val, by omega⟩).val

section

variable (v : Fin 4 → IVec S1x2048 32) (w : Fin 4 → IVec S2048x1 32) (src dst : Fin 8192 → Fin 512)

/-- The kernel's node numbers down the rows of the first table. -/
abbrev rowNodes : IVec S512x2048 32 := iota .tc S512x2048 32 [0] iota_S512x2048_d0_w32
/-- The kernel's node numbers along the columns of the second table. -/
abbrev colNodes : IVec S2048x512 32 := iota .tc S2048x512 32 [1] iota_S2048x512_d1_w32

/-- The kernel's matrix. -/
def counts : FVec Ideal S512x512 .f32 :=
  k0_pay4 (F := Ideal) rowNodes colNodes (k0_pay2 (F := Ideal) (v 0) (w 0) (v 1) (w 1)) (k0_pay3 (F := Ideal) (v 2) (w 2)) (v 3) (w 3)

/-- What block `k` of the edges adds to the matrix at `(s, n)`, as the kernel spells it. -/
def part (s n : Fin 512) (k : Fin 4) : EReal :=
  ∑ x : Fin 2048, FloatOps.sitofp (F := Ideal) .f32 (BitVec.setWidth 32 (IntOp.cmpi .eq (BitVec.ofNat 32 s.val) (v k (ix2 0 x))))
    * FloatOps.sitofp (F := Ideal) .f32 (BitVec.setWidth 32 (IntOp.cmpi .eq (BitVec.ofNat 32 n.val) (w k (ix2 x 0))))

/-- THE MATRIX AT `(s, n)`: the number of edges from `s` to `n`. -/
theorem counts_at (h : Ends src dst v w) (s n : Fin 512) : counts v w (ix2 s n) = edges src dst s n := by
  have hk : counts v w (ix2 s n) = ((part v w s n 0 + part v w s n 1) + part v w s n 2) + part v w s n 3 := by
    pointwise [counts, k0_pay4, k0_pay3, k0_pay2, part]
  rw [hk]
  unfold edges
  rw [Fin.sum_univ_tiles 4 2048 rfl, Fin.sum_univ_four]
  simp only [part, h.src_eq, h.dst_eq, oneHot]

variable (x : FVec Ideal S256x512 .f32) (m : FVec Ideal S1x512 .f32)

/-- The kernel's first aggregation: the masked features gathered along the edges. -/
theorem pay5_at (h : Ends src dst v w) (b : Fin 256) (n : Fin 512) :
    k0_pay5 (F := Ideal) rowNodes colNodes (k0_pay2 (F := Ideal) (v 0) (w 0) (v 1) (w 1)) (k0_pay3 (F := Ideal) (v 2) (w 2)) (v 3) (w 3) x m (ix2 b n)
      = gathered src dst (fun s => x (ix2 b s) * m (ix2 0 s)) n := by
  rw [← sum_mul_edges]
  pointwise [k0_pay5]
  exact Finset.sum_congr rfl fun s _ => congrArg _ (counts_at v w src dst h s n)

/-- The positive parts of the first aggregation, gathered. -/
theorem pay6_at (h : Ends src dst v w) (b : Fin 256) (n : Fin 512) :
    k0_pay6 (F := Ideal) rowNodes colNodes (k0_pay2 (F := Ideal) (v 0) (w 0) (v 1) (w 1)) (k0_pay3 (F := Ideal) (v 2) (w 2)) (v 3) (w 3) x m (ix2 b n)
      = gathered src dst (fun s => pos (gathered src dst (fun s => x (ix2 b s) * m (ix2 0 s)) s)) n := by
  rw [← sum_mul_edges]
  pointwise [k0_pay6]
  refine Finset.sum_congr rfl fun s _ => ?_
  rw [pay5_at v w src dst x m h]
  exact congrArg _ (counts_at v w src dst h s n)

/-- The negative parts of the first aggregation, gathered. -/
theorem pay7_at (h : Ends src dst v w) (b : Fin 256) (n : Fin 512) :
    k0_pay7 (F := Ideal) rowNodes colNodes (k0_pay2 (F := Ideal) (v 0) (w 0) (v 1) (w 1)) (k0_pay3 (F := Ideal) (v 2) (w 2)) (v 3) (w 3) x m (ix2 b n)
      = gathered src dst (fun s => neg (gathered src dst (fun s => x (ix2 b s) * m (ix2 0 s)) s)) n := by
  rw [← sum_mul_edges]
  pointwise [k0_pay7]
  refine Finset.sum_congr rfl fun s _ => ?_
  rw [pay5_at v w src dst x m h]
  exact congrArg _ (counts_at v w src dst h s n)

end

/-- The row of the positive parts of the first layer's weights, times the second layer's. -/
theorem pay10_at (W1 : FVec Ideal S1x256 .f32) (W2 : FVec Ideal S256x256 .f32) (j : Fin 256) :
    k0_pay10 (F := Ideal) (k0_pay8 (F := Ideal) W1) W2 (ix3 0 0 j) = ∑ k : Fin 256, pos (W1 (ix2 0 k)) * W2 (ix2 k j) := by
  pointwise [k0_pay10, k0_pay8, pos]

/-- The row of the negative parts of the first layer's weights, times the second layer's. -/
theorem pay11_at (W1 : FVec Ideal S1x256 .f32) (W2 : FVec Ideal S256x256 .f32) (j : Fin 256) :
    k0_pay11 (F := Ideal) (k0_pay9 (F := Ideal) W1) W2 (ix3 0 0 j) = ∑ k : Fin 256, neg (W1 (ix2 0 k)) * W2 (ix2 k j) := by
  pointwise [k0_pay11, k0_pay9, neg]

/-- The second layer's bias. -/
theorem pay12_at (b2 : FVec Ideal S1x256 .f32) (j : Fin 256) : k0_pay12 (F := Ideal) b2 (ix3 0 0 j) = b2 (ix2 0 j) := by
  pointwise [k0_pay12]

end Cert.KernelAt

end

end
-- ==== Proof.KerValue.lean ====
module

public import proofs.«01_k».proof.Proof.Gen.KernelIdeal.Frame
public import proofs.«01_k».proof.Proof.KerNodes
public import proofs.«01_k».proof.Proof.KerEdges
public import Idealize.ShloMosaic.Lib.Pipeline.Value

/-! # What the kernel's body stores

The body's one store, read at one index of the result, as a function of the arrays the body loads. -/

@[expose] public section

noncomputable section

namespace Cert.KernelAt

open Idealize.ShloMosaic Idealize.ShloMosaic.TcCoe Idealize.SL.Sem
open Cert.KernelIdeal Cert.KernelIdeal.Gen Cert.Graph

/-- The corner the whole-array rectangles start at. -/
theorem origin2 : (![0, 0] : Fin 2 → Nat) = fun _ => 0 := funext fun a => by fin_cases a <;> rfl

/-- One hidden unit of one node, from what the nodes gather and the weights' two rows. -/
def hidden (src dst : Fin 8192 → Fin 512) (x : Fin 512 → EReal) (W1 : FVec Ideal S1x256 .f32) (W2 : FVec Ideal S256x256 .f32)
    (b2 : FVec Ideal S1x256 .f32) (n : Fin 512) (j : Fin 256) : EReal :=
  pos ((gathered src dst (fun s => pos (gathered src dst x s)) n * (∑ k : Fin 256, pos (W1 (ix2 0 k)) * W2 (ix2 k j))
    + gathered src dst (fun s => neg (gathered src dst x s)) n * (∑ k : Fin 256, neg (W1 (ix2 0 k)) * W2 (ix2 k j))) + b2 (ix2 0 j))

/-- THE BODY'S STORE AT `(b, o)`, when the two rows of ends hold the node numbers `src` and `dst`. -/
theorem body_at (x0 : FVec Ideal S256x512 .f32) (x1 : FVec Ideal S1x512 .f32) (x2 : Vec Ideal S1x8192 .i32) (x3 : Vec Ideal S8192x1 .i32)
    (x4 : FVec Ideal S1x256 .f32) (x5 : FVec Ideal S256x256 .f32) (x6 : FVec Ideal S1x256 .f32) (x7 : FVec Ideal S256x496 .f32)
    (x8 : FVec Ideal S1x496 .f32) (x9 : FVec Ideal S256x496 .f32) (src dst : Fin 8192 → Fin 512)
    (hs : ∀ e, x2 (ix2 0 e) = BitVec.ofNat 32 (src e).val) (hd : ∀ e, x3 (ix2 e 0) = BitVec.ofNat 32 (dst e).val)
    (b : Fin 256) (o : Fin 496) :
    out0_10 (F := Ideal) x0 x1 x2 x3 x4 x5 x6 x7 x8 x9 (ix2 b o)
      = ((∑ j : Fin 256, ((∑ n, hidden src dst (fun s => x0 (ix2 b s) * x1 (ix2 0 s)) x4 x5 x6 n j) * Ideal.ofBits .f32 0x3B000000#32) * x7 (ix2 j o))
          + x8 (ix2 0 o)) + x9 (ix2 b o) := by
  have hE : Ends src dst ![View.ld (Val := Elt Ideal) (e' := .i32) x2 r0_0, View.ld (Val := Elt Ideal) (e' := .i32) x2 r0_2, View.ld (Val := Elt Ideal) (e' := .i32) x2 r0_4, View.ld (Val := Elt Ideal) (e' := .i32) x2 r0_6]
      ![View.ld (Val := Elt Ideal) (e' := .i32) x3 r0_1, View.ld (Val := Elt Ideal) (e' := .i32) x3 r0_3, View.ld (Val := Elt Ideal) (e' := .i32) x3 r0_5, View.ld (Val := Elt Ideal) (e' := .i32) x3 r0_7] := by
    constructor
    · intro k x
      fin_cases k <;> refine Eq.trans ?_ (hs _) <;> pointwise
    · intro k x
      fin_cases k <;> refine Eq.trans ?_ (hd _) <;> pointwise
  unfold_out out0_10
  rw [View.canon_unit_zero origin2]
  repeat rw [View.ld_unit_zero origin2]
  refine (pay1_at _ _ _ _ _ _ _ _ _ b o fun j => ?_).trans ?_
  · exact pay27_at _ _ _ _ _ _ b j (pay24_at _ _ _ _ _ _ b j (pay20_at _ _ _ _ _ _ b j (pay16_at _ _ _ _ _ _ b j (pay13_at _ _ _ _ _ _ b j))))
  · refine congrArg (· + _) (congrArg (· + _) (Finset.sum_congr rfl fun j _ => congrArg (· * _) (congrArg (· * _) (Finset.sum_congr rfl fun n _ => ?_))))
    exact congrArg pos (congrArg₂ (· + ·) (congrArg₂ (· + ·)
      (congrArg₂ (· * ·) (pay6_at _ _ src dst x0 x1 hE b n) (pay10_at x4 x5 j))
      (congrArg₂ (· * ·) (pay7_at _ _ src dst x0 x1 hE b n) (pay11_at x4 x5 j))) (pay12_at x6 j))

end Cert.KernelAt

end

end
-- ==== Proof.KerArray.lean ====
module

public import proofs.«01_k».proof.Proof.Gen.KernelIdeal.Value
public import proofs.«01_k».proof.Proof.KerValue
public import Idealize.ShloMosaic.Lib.Pipeline.ValueKit.Point

/-! # What the kernel's result array holds

The arrays the kernel's windows stage, as functions of the program's arguments, and the one result array after the run. -/

@[expose] public section

noncomputable section

namespace Cert.KernelAt

open Idealize.ShloMosaic Idealize.ShloMosaic.TcCoe Idealize.SL.Sem
open Cert.KernelIdeal Cert.KernelIdeal.Gen Cert.Graph

variable (m : (ℓ : Loc nD τ sig) → Buf (Elt Ideal) ℓ) (c : Dev nD)

/-- The features the kernel's first window stages: the state's on the first 496 nodes, the action's on the last 16. -/
theorem features_at (b : Fin 256) (s : Fin 512) :
    V m c main_v0 (ix2 b s) = if h : s.val < 496 then m ((c : Thread nD τ).loc main_arg0) (ix2 b ⟨s.val, h⟩)
      else m ((c : Thread nD τ).loc main_arg1) (ix2 b ⟨s.val - 496, by omega⟩) := by
  unfold_abbrev_sides
  after_results
  pointwise

/-- The mask, laid out as one row. -/
theorem mask_at (s : Fin 512) : V m c main_v7 (ix2 0 s) = m ((c : Thread nD τ).loc main_arg3) (ix1 s) := by
  unfold_abbrev_sides
  after_results
  pointwise

/-- The edges' first ends, laid out as one row. -/
theorem src_at (e : Fin 8192) : V m c main_v3 (ix2 0 e) = m ((c : Thread nD τ).loc main_arg2) (ix2 0 e) := by
  unfold_abbrev_sides
  after_results
  pointwise

/-- The edges' second ends, laid out as one column. -/
theorem dst_at (e : Fin 8192) : V m c main_v6 (ix2 e 0) = m ((c : Thread nD τ).loc main_arg2) (ix2 1 e) := by
  unfold_abbrev_sides
  after_results
  pointwise

/-- The second layer's bias, laid out as one row. -/
theorem b2_at (j : Fin 256) : V m c main_v8 (ix2 0 j) = m ((c : Thread nD τ).loc main_arg7) (ix1 j) := by
  unfold_abbrev_sides
  after_results
  pointwise

/-- The last layer's bias, laid out as one row. -/
theorem bout_at (o : Fin 496) : V m c main_v9 (ix2 0 o) = m ((c : Thread nD τ).loc main_arg9) (ix1 o) := by
  unfold_abbrev_sides
  after_results
  pointwise

/-- The one grid point's block of every window starts at the array's first element. -/
theorem starts : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] :=
  (by decide +kernel : ∀ t : Fin grid0.N, _)

section

variable (t : Fin cfg0.N)

/-- The first window's block holds the features. -/
theorem blk0 (b : Fin 256) (s : Fin 512) : iblk m c 0 t (ix2 b s) = if h : s.val < 496 then m ((c : Thread nD τ).loc main_arg0) (ix2 b ⟨s.val, h⟩)
      else m ((c : Thread nD τ).loc main_arg1) (ix2 b ⟨s.val - 496, by omega⟩) :=
  (show iblk m c 0 t (ix2 b s) = V m c main_v0 (ix2 b s) by blk_ext [iblk, starts t]).trans (features_at m c b s)

/-- The next block holds the mask. -/
theorem blk1 (s : Fin 512) : iblk m c 1 t (ix2 0 s) = m ((c : Thread nD τ).loc main_arg3) (ix1 s) :=
  (show iblk m c 1 t (ix2 0 s) = V m c main_v7 (ix2 0 s) by blk_ext [iblk, starts t]).trans (mask_at m c s)

/-- The next block holds the edges' first ends. -/
theorem blk2 (e : Fin 8192) : iblk m c 2 t (ix2 0 e) = m ((c : Thread nD τ).loc main_arg2) (ix2 0 e) :=
  (show iblk m c 2 t (ix2 0 e) = V m c main_v3 (ix2 0 e) by blk_ext [iblk, starts t]).trans (src_at m c e)

/-- The next block holds the edges' second ends. -/
theorem blk3 (e : Fin 8192) : iblk m c 3 t (ix2 e 0) = m ((c : Thread nD τ).loc main_arg2) (ix2 1 e) :=
  (show iblk m c 3 t (ix2 e 0) = V m c main_v6 (ix2 e 0) by blk_ext [iblk, starts t]).trans (dst_at m c e)

/-- The next block holds the first layer's weights. -/
theorem blk4 (k : Fin 256) : iblk m c 4 t (ix2 0 k) = m ((c : Thread nD τ).loc main_arg4) (ix2 0 k) :=
  (show iblk m c 4 t (ix2 0 k) = V m c main_arg4 (ix2 0 k) by blk_ext [iblk, starts t]).trans (congrFun (V_main_arg4 m c) _)

/-- The next block holds the second layer's weights. -/
theorem blk5 (k j : Fin 256) : iblk m c 5 t (ix2 k j) = m ((c : Thread nD τ).loc main_arg6) (ix2 k j) :=
  (show iblk m c 5 t (ix2 k j) = V m c main_arg6 (ix2 k j) by blk_ext [iblk, starts t]).trans (congrFun (V_main_arg6 m c) _)

/-- The next block holds the second layer's bias. -/
theorem blk6 (j : Fin 256) : iblk m c 6 t (ix2 0 j) = m ((c : Thread nD τ).loc main_arg7) (ix1 j) :=
  (show iblk m c 6 t (ix2 0 j) = V m c main_v8 (ix2 0 j) by blk_ext [iblk, starts t]).trans (b2_at m c j)

/-- The next block holds the last layer's weights. -/
theorem blk7 (j : Fin 256) (o : Fin 496) : iblk m c 7 t (ix2 j o) = m ((c : Thread nD τ).loc main_arg8) (ix2 j o) :=
  (show iblk m c 7 t (ix2 j o) = V m c main_arg8 (ix2 j o) by blk_ext [iblk, starts t]).trans (congrFun (V_main_arg8 m c) _)

/-- The next block holds the last layer's bias. -/
theorem blk8 (o : Fin 496) : iblk m c 8 t (ix2 0 o) = m ((c : Thread nD τ).loc main_arg9) (ix1 o) :=
  (show iblk m c 8 t (ix2 0 o) = V m c main_v9 (ix2 0 o) by blk_ext [iblk, starts t]).trans (bout_at m c o)

/-- The last input block holds the state. -/
theorem blk9 (b : Fin 256) (o : Fin 496) : iblk m c 9 t (ix2 b o) = m ((c : Thread nD τ).loc main_arg0) (ix2 b o) :=
  (show iblk m c 9 t (ix2 b o) = V m c main_arg0 (ix2 b o) by blk_ext [iblk, starts t]).trans (congrFun (V_main_arg0 m c) _)

/-- The output window's block is the whole result array. -/
theorem place (b : Fin 256) (o : Fin 496) : (win0_10.blk t).view.emb (ix2 b o) = ix2 b o := by
  blk_ext [starts t]

end

/-- The result array is `G` when what the body stores at the one grid point is. -/
theorem array_of (G : FVec Ideal S256x496 .f32)
    (h : ∀ (t : Fin cfg0.N) (b : Fin 256) (o : Fin 496), out0_10 (iblk m c 0 t) (iblk m c 1 t) (iblk m c 2 t) (iblk m c 3 t) (iblk m c 4 t)
      (iblk m c 5 t) (iblk m c 6 t) (iblk m c 7 t) (iblk m c 8 t) (iblk m c 9 t) (ix2 b o) = G (ix2 b o)) :
    (dats m 0 c).arrAt 10 (cfgs 0).N = G := by
  refine (dats m 0 c).arrAt_eq_of_covers 10 _ (by decide +kernel) fun t hf y => ?_
  blk_simp
  rw [after0_10]
  obtain ⟨b, o, rfl⟩ : ∃ (b : Fin 256) (o : Fin 496), y = ix2 b o := ⟨y 0, y 1, funext fun a => by fin_cases a <;> rfl⟩
  exact (h t b o).trans (congrArg G (place t b o).symm)

/-- The kernel's result as one function of the arguments, for the edges `src e → dst e`. -/
def result (src dst : Fin 8192 → Fin 512) : FVec Ideal S256x496 .f32 := fun i =>
  readOut (fun j => (∑ n, hiddenK src dst
      (masked (m ((c : Thread nD τ).loc main_arg0)) (m ((c : Thread nD τ).loc main_arg1)) (m ((c : Thread nD τ).loc main_arg3)) (i 0))
      (m ((c : Thread nD τ).loc main_arg4)) (m ((c : Thread nD τ).loc main_arg6)) (m ((c : Thread nD τ).loc main_arg7)) n j)
        * Ideal.ofBits .f32 0x3B000000#32)
    (m ((c : Thread nD τ).loc main_arg8)) (m ((c : Thread nD τ).loc main_arg9)) (m ((c : Thread nD τ).loc main_arg0)) (i 0) (i 1)

/-- THE KERNEL'S ARRAY after the run, when its edge argument holds the node numbers `src` and `dst`. -/
theorem array_eq (src dst : Fin 8192 → Fin 512)
    (hs : ∀ e, m ((c : Thread nD τ).loc main_arg2) (ix2 0 e) = BitVec.ofNat 32 (src e).val)
    (hd : ∀ e, m ((c : Thread nD τ).loc main_arg2) (ix2 1 e) = BitVec.ofNat 32 (dst e).val) :
    (dats m 0 c).arrAt 10 (cfgs 0).N = result m c src dst := by
  refine array_of m c _ fun t b o => ?_
  refine (body_at (iblk m c 0 t) (iblk m c 1 t) (iblk m c 2 t) (iblk m c 3 t) (iblk m c 4 t) (iblk m c 5 t) (iblk m c 6 t)
    (iblk m c 7 t) (iblk m c 8 t) (iblk m c 9 t) src dst (fun e => (blk2 m c t e).trans (hs e)) (fun e => (blk3 m c t e).trans (hd e)) b o).trans ?_
  simp only [hidden, blk0 m c t, blk1 m c t, blk4 m c t, blk5 m c t, blk6 m c t, blk7 m c t, blk8 m c t, blk9 m c t]
  unfold result readOut hiddenK masked
  rfl

end Cert.KernelAt

end

end
-- ==== Proof.Rows.lean ====
module

public import Idealize.ShloMosaic.Lib.Pointwise

/-! # A gather and an accumulating scatter along the middle axis of a rank-3 array

The reference takes the rows `src e` of an array `[B, N, C]` along its middle axis, one for every edge `e`, and adds
them to the rows `dst e` of another. Here both operations are read at an index, for index words that, read signed, are
rows of the array. -/

@[expose] public section

noncomputable section

namespace Cert.Rows

open Idealize.ShloMosaic

/-- The dimension numbers of the gather: axes 0 and 2 of the result are the slice's, axis 1 runs over the indices. -/
abbrev takeDims (B N E C : Nat)
    (wf : GatherDims.WF ⟨3, ![B, N, C]⟩ ⟨2, ![E, 1]⟩ ⟨3, ![B, E, C]⟩ [0, 2] [1] [] [1] [] 1 ![B, 1, C]) :
    GatherDims ⟨3, ![B, N, C]⟩ ⟨2, ![E, 1]⟩ ⟨3, ![B, E, C]⟩ where
  offsetDims := [0, 2]
  collapsedSliceDims := [1]
  operandBatchingDims := []
  startIndicesBatchingDims := []
  startIndexMap := [1]
  indexVectorDim := 1
  sliceSizes := ![B, 1, C]
  wf := wf

/-- THE GATHER READ AT `(b, e, c)`: the operand at row `n`, when the index word of `e` is `n`. -/
theorem take_apply {α : Type} {B N E C : Nat}
    (wf : GatherDims.WF ⟨3, ![B, N, C]⟩ ⟨2, ![E, 1]⟩ ⟨3, ![B, E, C]⟩ [0, 2] [1] [] [1] [] 1 ![B, 1, C])
    (x : (⟨3, ![B, N, C]⟩ : Shape).Idx → α) (idx : IVec ⟨2, ![E, 1]⟩ 32) (b : Fin B) (e : Fin E) (c : Fin C) (n : Fin N)
    (hn : (idx (ix2 e 0)).toInt = (n.val : Int)) :
    Host.gather (takeDims B N E C wf) x idx (ix3 b e c) = x (ix3 b n c) := by
  unfold Host.gather
  congr 1
  funext a
  refine Fin.ext ?_
  show (takeDims B N E C wf).start (ix3 b e c) idx a + (takeDims B N E C wf).batchCoord (ix3 b e c) a
    + (takeDims B N E C wf).offCoord (ix3 b e c) a = _
  rw [GatherDims.batchCoord_eq_zero _ _ _ List.not_mem_nil]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · unfold GatherDims.start
    rw [dif_neg (show (0 : Fin 3) ∉ (takeDims B N E C wf).startIndexMap from (show (0 : Fin 3) ∉ ([1] : List (Fin 3)) by decide))]
    simp only [Nat.zero_add]
    rfl
  · rw [GatherDims.offCoord_eq_zero _ _ _ (fun h => ((GatherDims.mem_sKept _ _).mp h).1 (List.mem_singleton.mpr rfl))]
    unfold GatherDims.start
    rw [dif_pos (show (1 : Fin 3) ∈ (takeDims B N E C wf).startIndexMap from List.mem_singleton.mpr rfl)]
    have hsi : (takeDims B N E C wf).siIdx (ix3 b e c) ⟨List.idxOf (1 : Fin 3) (takeDims B N E C wf).startIndexMap,
        List.idxOf_lt_length_iff.2 (List.mem_singleton.mpr rfl)⟩ = ix2 e 0 := by
      funext b'
      refine Fin.ext ?_
      match b' with
      | ⟨0, _⟩ => rfl
      | ⟨1, _⟩ => rfl
    show min (idx ((takeDims B N E C wf).siIdx (ix3 b e c) ⟨List.idxOf (1 : Fin 3) (takeDims B N E C wf).startIndexMap, _⟩)).toInt.toNat (N - 1) + 0 + 0 = n.val
    rw [hsi, hn]
    have := n.isLt
    omega
  · unfold GatherDims.start
    rw [dif_neg (show (2 : Fin 3) ∉ (takeDims B N E C wf).startIndexMap from (show (2 : Fin 3) ∉ ([1] : List (Fin 3)) by decide))]
    simp only [Nat.zero_add]
    rfl

/-- The dimension numbers of the scatter: axes 0 and 2 of the updates are the window's, axis 1 runs over the indices. -/
abbrev addDims (B N E C : Nat)
    (wf : ScatterDims.WF ⟨3, ![B, N, C]⟩ ⟨2, ![E, 1]⟩ ⟨3, ![B, E, C]⟩ [0, 2] [1] [1] 1) :
    ScatterDims ⟨3, ![B, N, C]⟩ ⟨2, ![E, 1]⟩ ⟨3, ![B, E, C]⟩ where
  updateWindowDims := [0, 2]
  insertedWindowDims := [1]
  scatterDimsToOperandDims := [1]
  indexVectorDim := 1
  wf := wf

/-- Where the update at `(b, e, c)` lands when the index word of `e` is the row `n`: at `(b, n, c)`. -/
theorem lands {B N E C : Nat}
    (wf : ScatterDims.WF ⟨3, ![B, N, C]⟩ ⟨2, ![E, 1]⟩ ⟨3, ![B, E, C]⟩ [0, 2] [1] [1] 1)
    (idx : IVec ⟨2, ![E, 1]⟩ 32) (b : Fin B) (e : Fin E) (c : Fin C) (n : Fin N)
    (hn : (idx (ix2 e 0)).toInt = (n.val : Int)) :
    (addDims B N E C wf).resultIdx? (ix3 b e c) idx = some (ix3 b n c) := by
  have hs : ∀ a : Fin 3, (addDims B N E C wf).start (ix3 b e c) idx a + ((addDims B N E C wf).window (ix3 b e c) a : Int)
      = ((ix3 b n c : (⟨3, ![B, N, C]⟩ : Shape).Idx) a).val := by
    intro a
    have h3 : a = 0 ∨ a = 1 ∨ a = 2 := by
      match a with
      | ⟨0, _⟩ => exact Or.inl rfl
      | ⟨1, _⟩ => exact Or.inr (Or.inl rfl)
      | ⟨2, _⟩ => exact Or.inr (Or.inr rfl)
    rcases h3 with rfl | rfl | rfl
    · unfold ScatterDims.start
      rw [dif_neg (show (0 : Fin 3) ∉ (addDims B N E C wf).scatterDimsToOperandDims from (show (0 : Fin 3) ∉ ([1] : List (Fin 3)) by decide)), Int.zero_add]
      rfl
    · unfold ScatterDims.start
      rw [dif_pos (show (1 : Fin 3) ∈ (addDims B N E C wf).scatterDimsToOperandDims from List.mem_singleton.mpr rfl)]
      have hsi : (addDims B N E C wf).siIdx (ix3 b e c) ⟨List.idxOf (1 : Fin 3) (addDims B N E C wf).scatterDimsToOperandDims,
          List.idxOf_lt_length_iff.2 (List.mem_singleton.mpr rfl)⟩ = ix2 e 0 := by
        funext b'
        refine Fin.ext ?_
        match b' with
        | ⟨0, _⟩ => rfl
        | ⟨1, _⟩ => rfl
      show (idx ((addDims B N E C wf).siIdx (ix3 b e c) ⟨List.idxOf (1 : Fin 3) (addDims B N E C wf).scatterDimsToOperandDims, _⟩)).toInt + 0 = (n.val : Int)
      rw [hsi, hn, Int.add_zero]
    · unfold ScatterDims.start
      rw [dif_neg (show (2 : Fin 3) ∉ (addDims B N E C wf).scatterDimsToOperandDims from (show (2 : Fin 3) ∉ ([1] : List (Fin 3)) by decide)), Int.zero_add]
      rfl
  unfold ScatterDims.resultIdx?
  rw [dif_pos fun a => by rw [hs a]; exact ⟨Int.natCast_nonneg _, Int.ofNat_lt.2 (Fin.isLt _)⟩]
  congr 1
  funext a
  refine Fin.ext ?_
  show ((addDims B N E C wf).start (ix3 b e c) idx a + ((addDims B N E C wf).window (ix3 b e c) a : Int)).toNat = _
  rw [hs a]
  rfl

/-- THE ACCUMULATING SCATTER READ AT `(b, n, c)`: the operand there, and the updates of the edges whose index is `n`. -/
theorem add_apply {B N E C : Nat} {φ : FTy}
    (wf : ScatterDims.WF ⟨3, ![B, N, C]⟩ ⟨2, ![E, 1]⟩ ⟨3, ![B, E, C]⟩ [0, 2] [1] [1] 1)
    (x : FVec Ideal ⟨3, ![B, N, C]⟩ φ) (idx : IVec ⟨2, ![E, 1]⟩ 32) (upd : FVec Ideal ⟨3, ![B, E, C]⟩ φ) (dst : Fin E → Fin N)
    (hd : ∀ e, (idx (ix2 e 0)).toInt = ((dst e).val : Int)) (b : Fin B) (n : Fin N) (c : Fin C) :
    Host.scatterAdd (F := Ideal) (addDims B N E C wf) x idx upd (ix3 b n c)
      = (show EReal from x (ix3 b n c)) + ∑ e, if dst e = n then (show EReal from upd (ix3 b e c)) else 0 := by
  show Ideal.hostScatterAdd (addDims B N E C wf) x idx upd (ix3 b n c) = _
  unfold Ideal.hostScatterAdd
  congr 1
  rw [Finset.sum_filter, sum_idx3]
  rw [Finset.sum_eq_single b]
  · refine Finset.sum_congr rfl fun e _ => ?_
    rw [Finset.sum_eq_single c]
    · rw [lands wf idx b e c _ (hd e)]
      simp only [Option.some.injEq, ix3_inj, true_and, and_true]
    · intro c' _ hc
      rw [lands wf idx b e c' _ (hd e), if_neg]
      simp only [Option.some.injEq, ix3_inj]
      exact fun h => hc h.2.2
    · exact fun h => absurd (Finset.mem_univ _) h
  · intro b' _ hb
    refine Finset.sum_eq_zero fun e _ => Finset.sum_eq_zero fun c' _ => ?_
    rw [lands wf idx b' e c' _ (hd e), if_neg]
    simp only [Option.some.injEq, ix3_inj]
    exact fun h => hb h.1
  · exact fun h => absurd (Finset.mem_univ _) h

end Cert.Rows

end

end
-- ==== Proof.RefValue.lean ====
module

public import proofs.«01_k».proof.Proof.Gen.ReferenceIdeal.Read
public import proofs.«01_k».proof.Proof.Rows
public import proofs.«01_k».proof.Proof.Spec

/-! # What the reference computes, read at an index

The stages of the reference, one after another, down to its result at `(b, o)`; the index words of the edges are the
nodes `src e` and `dst e`. -/

@[expose] public section

set_option maxRecDepth 16384

noncomputable section

namespace Cert.ReferenceAt

open Idealize.ShloMosaic Idealize.ShloMosaic.TcCoe Idealize.SL.Sem
open Cert.ReferenceIdeal Cert.ReferenceIdeal.Gen Cert.ReferenceIdeal.Read Cert.Graph

/-- A word below 512 is not negative, so jax's wrapping of a negative index leaves it as it is. -/
theorem wrap_small (n : Fin 512) :
    Scalar.select (IntOp.cmpi .slt (BitVec.ofNat 32 n.val) 0#32) (IntOp.addi (BitVec.ofNat 32 n.val) 512#32) (BitVec.ofNat 32 n.val)
      = BitVec.ofNat 32 n.val := by
  revert n
  decide +kernel

/-- A word below 512 reads as that number. -/
theorem toInt_small (n : Fin 512) : (BitVec.ofNat 32 n.val).toInt = (n.val : Int) := by
  revert n
  decide +kernel

section

variable (x0 : FVec Ideal S256x496 .f32) (x1 : FVec Ideal S256x16 .f32) (x2 : IVec S2x8192 32) (x3 : FVec Ideal S512 .f32)
  (x4 : FVec Ideal S1x256 .f32) (x5 : FVec Ideal S256 .f32) (x6 : FVec Ideal S256x256 .f32) (x7 : FVec Ideal S256 .f32)
  (x8 : FVec Ideal S256x496 .f32) (x9 : FVec Ideal S496 .f32)
  (src dst : Fin 8192 → Fin 512)

/-- The first gather's index word of edge `e`. -/
theorem v15_at (hs : ∀ e, x2 (ix2 0 e) = BitVec.ofNat 32 (src e).val) (e : Fin 8192) :
    val_main_v15 (F := Ideal) x2 (ix2 e 0) = BitVec.ofNat 32 (src e).val := by
  pointwise [val_main_v15, val_main_v14, val_main_v13, val_main_v12, val_main_v11, val_main_v10, val_main_v6, val_main_v5, val_main_c, val_main_c_0]
  rw [hs e]
  exact wrap_small _

/-- The first scatter's index word of edge `e`. -/
theorem v22_at (hd : ∀ e, x2 (ix2 1 e) = BitVec.ofNat 32 (dst e).val) (e : Fin 8192) :
    val_main_v22 (F := Ideal) x2 (ix2 e 0) = BitVec.ofNat 32 (dst e).val := by
  pointwise [val_main_v22, val_main_v21, val_main_v20, val_main_v19, val_main_v18, val_main_v17, val_main_v8, val_main_v7, val_main_c_1, val_main_c_2]
  rw [hd e]
  exact wrap_small _

/-- The second gather's index word of edge `e`. -/
theorem v35_at (hs : ∀ e, x2 (ix2 0 e) = BitVec.ofNat 32 (src e).val) (e : Fin 8192) :
    val_main_v35 (F := Ideal) x2 (ix2 e 0) = BitVec.ofNat 32 (src e).val := by
  pointwise [val_main_v35, val_main_v34, val_main_v33, val_main_v32, val_main_v31, val_main_v30, val_main_v6, val_main_v5, val_main_c_4, val_main_c_5]
  rw [hs e]
  exact wrap_small _

/-- The second scatter's index word of edge `e`. -/
theorem v42_at (hd : ∀ e, x2 (ix2 1 e) = BitVec.ofNat 32 (dst e).val) (e : Fin 8192) :
    val_main_v42 (F := Ideal) x2 (ix2 e 0) = BitVec.ofNat 32 (dst e).val := by
  pointwise [val_main_v42, val_main_v41, val_main_v40, val_main_v39, val_main_v38, val_main_v37, val_main_v8, val_main_v7, val_main_c_6, val_main_c_7]
  rw [hd e]
  exact wrap_small _

/-- The masked node features. -/
theorem v4_at (b : Fin 256) (s : Fin 512) : val_main_v4 (F := Ideal) x0 x1 x3 (ix3 b s 0) = masked x0 x1 x3 b s := by
  pointwise [val_main_v4, val_main_v3, val_main_v2, val_main_v1, val_main_v0, masked]

/-- The array the first scatter adds to is zero. -/
theorem v9_at (b : Fin 256) (n : Fin 512) : val_main_v9 (F := Ideal) (ix3 b n 0) = (0 : EReal) := by
  pointwise [val_main_v9, val_main_cst]

/-- The first aggregation: the masked features gathered along the edges. -/
theorem v23_at (hs : ∀ e, x2 (ix2 0 e) = BitVec.ofNat 32 (src e).val) (hd : ∀ e, x2 (ix2 1 e) = BitVec.ofNat 32 (dst e).val)
    (b : Fin 256) (n : Fin 512) :
    val_main_v23 (F := Ideal) x0 x1 x2 x3 (ix3 b n 0) = gathered src dst (masked x0 x1 x3 b) n := by
  unfold val_main_v23
  refine (Rows.add_apply _ _ _ _ dst (fun e => by rw [v22_at x2 dst hd e]; exact toInt_small _) b n 0).trans ?_
  rw [v9_at, zero_add]
  refine Finset.sum_congr rfl fun e _ => ?_
  split
  · unfold val_main_v16
    exact (Rows.take_apply _ _ _ b e 0 (src e) (by rw [v15_at x2 src hs e]; exact toInt_small _)).trans (v4_at x0 x1 x3 b _)
  · rfl

/-- The first layer, rectified. -/
theorem v28_at (b : Fin 256) (s : Fin 512) (k : Fin 256) : val_main_v28 (F := Ideal) x0 x1 x2 x3 x4 x5 (ix3 b s k)
    = pos (val_main_v23 (F := Ideal) x0 x1 x2 x3 (ix3 b s 0) * x4 (ix2 0 k) + x5 (ix1 k)) := by
  pointwise [val_main_v28, val_main_v27, val_main_v26, val_main_v25, val_main_v24, val_main_call0_v0, val_main_call0_cst, pos]
  rw [Fin.sum_univ_one]

/-- The array the second scatter adds to is zero. -/
theorem v29_at (b : Fin 256) (n : Fin 512) (k : Fin 256) : val_main_v29 (F := Ideal) (ix3 b n k) = (0 : EReal) := by
  pointwise [val_main_v29, val_main_cst_3]

/-- The second aggregation: the rectified first layer gathered along the edges. -/
theorem v43_at (hs : ∀ e, x2 (ix2 0 e) = BitVec.ofNat 32 (src e).val) (hd : ∀ e, x2 (ix2 1 e) = BitVec.ofNat 32 (dst e).val)
    (b : Fin 256) (n : Fin 512) (k : Fin 256) :
    val_main_v43 (F := Ideal) x0 x1 x2 x3 x4 x5 (ix3 b n k)
      = gathered src dst (fun s => pos (gathered src dst (masked x0 x1 x3 b) s * x4 (ix2 0 k) + x5 (ix1 k))) n := by
  unfold val_main_v43
  refine (Rows.add_apply _ _ _ _ dst (fun e => by rw [v42_at x2 dst hd e]; exact toInt_small _) b n k).trans ?_
  rw [v29_at, zero_add]
  refine Finset.sum_congr rfl fun e _ => ?_
  split
  · unfold val_main_v36
    refine (Rows.take_apply _ _ _ b e k (src e) (by rw [v35_at x2 src hs e]; exact toInt_small _)).trans ?_
    rw [v28_at, v23_at x0 x1 x2 x3 src dst hs hd]
  · rfl

/-- The second layer, rectified. -/
theorem v48_at (b : Fin 256) (n : Fin 512) (j : Fin 256) : val_main_v48 (F := Ideal) x0 x1 x2 x3 x4 x5 x6 x7 (ix3 b n j)
    = pos ((∑ k : Fin 256, val_main_v43 (F := Ideal) x0 x1 x2 x3 x4 x5 (ix3 b n k) * x6 (ix2 k j)) + x7 (ix1 j)) := by
  pointwise [val_main_v48, val_main_v47, val_main_v46, val_main_v45, val_main_v44, val_main_call1_v0, val_main_call1_cst, pos]

/-- The result in terms of the second layer. -/
theorem v56_at (b : Fin 256) (o : Fin 496) : val_main_v56 (F := Ideal) x0 x1 x2 x3 x4 x5 x6 x7 x8 x9 (ix2 b o)
    = readOut (fun j => Ideal.div (∑ n : Fin 512, val_main_v48 (F := Ideal) x0 x1 x2 x3 x4 x5 x6 x7 (ix3 b n j)) (Ideal.ofBits .f32 0x44000000#32))
        x8 x9 x0 b o := by
  pointwise [val_main_v56, val_main_v55, val_main_v54, val_main_v53, val_main_v52, val_main_v51, val_main_v50, val_main_v49, val_main_cst_8, val_main_cst_9, readOut]

/-- THE REFERENCE'S RESULT AT `(b, o)`. -/
theorem result_at (hs : ∀ e, x2 (ix2 0 e) = BitVec.ofNat 32 (src e).val) (hd : ∀ e, x2 (ix2 1 e) = BitVec.ofNat 32 (dst e).val)
    (b : Fin 256) (o : Fin 496) : val_main_v56 (F := Ideal) x0 x1 x2 x3 x4 x5 x6 x7 x8 x9 (ix2 b o)
    = readOut (fun j => Ideal.div (∑ n : Fin 512, hiddenR src dst (masked x0 x1 x3 b) x4 x5 x6 x7 n j) (Ideal.ofBits .f32 0x44000000#32))
        x8 x9 x0 b o := by
  rw [v56_at]
  simp only [v48_at, v43_at x0 x1 x2 x3 x4 x5 src dst hs hd]
  rfl

end

end Cert.ReferenceAt

end

end
-- ==== Proof.Equation.lean ====
module

public import proofs.«01_k».proof.Proof.Spec
public import Idealize.ShloMosaic.PureOps.Ideal.Laws

/-! # The two readings are one

The reference's hidden units and the kernel's are equal once the first layer's bias is zero and the masked features are
finite; a quotient by 512 is the product with its inverse, which the kernel's constant holds exactly. -/

@[expose] public section

noncomputable section

namespace Cert.Graph

open Idealize.ShloMosaic

/-- The kernel's constant is the inverse of the number of nodes. -/
theorem inverse_value : Ideal.ofBits .f32 0x3B000000#32 = ((1 / 512 : ℝ) : EReal) := by
  simp [Ideal.ofBits, Ideal.ieee, -EReal.coe_mul, -one_div]; norm_num

/-- The reference's constant is the number of nodes. -/
theorem nodes_value : Ideal.ofBits .f32 0x44000000#32 = ((512 : ℝ) : EReal) := by
  simp [Ideal.ofBits, Ideal.ieee, -EReal.coe_mul, -one_div]; norm_num

/-- Dividing by the number of nodes is multiplying by its inverse. -/
theorem mean_eq (s : EReal) : Ideal.div s (Ideal.ofBits .f32 0x44000000#32) = s * Ideal.ofBits .f32 0x3B000000#32 := by
  rw [nodes_value, inverse_value, Ideal.div_coe (by norm_num)]

/-- THE HIDDEN UNITS AGREE when the first layer's bias is zero and the masked features are finite. -/
theorem hidden_eq (src dst : Fin 8192 → Fin 512) (x : Fin 512 → EReal) (hx : ∀ s, x s ≠ ⊤) (hx' : ∀ s, x s ≠ ⊥)
    (W1 : FVec Ideal ⟨2, ![1, 256]⟩ .f32) (b1 : FVec Ideal ⟨1, ![256]⟩ .f32) (hb : ∀ k, b1 (ix1 k) = (0 : EReal))
    (W2 : FVec Ideal ⟨2, ![256, 256]⟩ .f32) (b2 : FVec Ideal ⟨1, ![256]⟩ .f32) (n : Fin 512) (j : Fin 256) :
    hiddenR src dst x W1 b1 W2 b2 n j = hiddenK src dst x W1 W2 b2 n j := by
  unfold hiddenR hiddenK
  simp only [hb, add_zero]
  exact congrArg (fun r => pos (r + b2 (ix1 j))) (two_layers src dst (fun s => gathered src dst x s)
    (gathered_ne_top src dst x hx) (gathered_ne_bot src dst x hx') (fun k => W1 (ix2 0 k)) (fun k => W2 (ix2 k j)) n)

/-- A product of two finite numbers is finite, and so are the masked features. -/
theorem masked_finite (state : FVec Ideal ⟨2, ![256, 496]⟩ .f32) (action : FVec Ideal ⟨2, ![256, 16]⟩ .f32) (mask : FVec Ideal ⟨1, ![512]⟩ .f32)
    (h0 : ∀ b s, (state (ix2 b s) : EReal) ≠ ⊤ ∧ (state (ix2 b s) : EReal) ≠ ⊥)
    (h1 : ∀ b s, (action (ix2 b s) : EReal) ≠ ⊤ ∧ (action (ix2 b s) : EReal) ≠ ⊥)
    (h3 : ∀ s, (mask (ix1 s) : EReal) ≠ ⊤ ∧ (mask (ix1 s) : EReal) ≠ ⊥) (b : Fin 256) (s : Fin 512) :
    masked state action mask b s ≠ ⊤ ∧ masked state action mask b s ≠ ⊥ := by
  unfold masked
  have hm : ∀ x y : EReal, x ≠ ⊤ ∧ x ≠ ⊥ → y ≠ ⊤ ∧ y ≠ ⊥ → x * y ≠ ⊤ ∧ x * y ≠ ⊥ := fun x y hx hy => by
    lift x to ℝ using hx
    lift y to ℝ using hy
    rw [← EReal.coe_mul]
    exact ⟨EReal.coe_ne_top _, EReal.coe_ne_bot _⟩
  refine hm _ _ ?_ (h3 s)
  split
  · exact h0 b _
  · exact h1 b _

end Cert.Graph

end

end
-- ==== Proof.Pre.lean ====
module

public import proofs.«01_k».proof.Pre_within
public import proofs.«01_k».proof.Proof.Spec
public import Idealize.ShloMosaic.PureOps.Ideal.Laws
public import Idealize.ShloMosaic.Lib.Pointwise

/-! # What the precondition says

The precondition's five masks, read at their indices: the ends of the edges are node numbers, the first layer's bias is
zero, the state, the action and the mask are finite. -/

@[expose] public section

noncomputable section

namespace Cert.Within

open Idealize.ShloMosaic Cert.Pre_within

/-- The shape relations the precondition's broadcasts take. -/
theorem shapes : Cert.Pre_within.Facts := ⟨by decide, by decide, by decide, by decide, by decide⟩

/-- A word between 0 and 511 by the signed comparisons is the word of a node number. -/
theorem node_of_word (x : BitVec 32) (h : IntOp.andi (IntOp.cmpi .sge x 0#32) (IntOp.cmpi .slt x 512#32) = 1#1) :
    ∃ n : Fin 512, x = BitVec.ofNat 32 n.val := by
  have hb : (0#32).sle x = true ∧ x.slt 512#32 = true := by
    change BitVec.ofBool ((0#32).sle x) &&& BitVec.ofBool (x.slt 512#32) = 1#1 at h
    cases h1 : (0#32).sle x <;> cases h2 : x.slt 512#32 <;> simp [h1, h2] at h ⊢
  have hlo := BitVec.sle_iff_toInt_le.1 hb.1
  have hhi := BitVec.slt_iff_toInt_lt.1 hb.2
  have hx : x.toNat < 512 := by
    have hc := BitVec.toInt_eq_toNat_cond x
    have hlt := x.isLt
    simp at hlo hhi
    split at hc <;> omega
  exact ⟨⟨x.toNat, hx⟩, by simp⟩

/-- A number whose absolute value is below the infinite constant is finite. -/
theorem finite_of_word (x : EReal) (h : Ideal.cmp .olt (max x (-x)) (Ideal.ofBits .f32 0x7F800000#32) = 1#1) : x ≠ ⊤ ∧ x ≠ ⊥ := by
  have hc : Ideal.ofBits .f32 0x7F800000#32 = ⊤ := by simp [Ideal.ofBits, Ideal.ieee]
  rw [hc] at h
  constructor <;> rintro rfl <;> simp [Ideal.cmp] at h

variable [Facts] (x0 : FVec Ideal S256x496 .f32) (x1 : FVec Ideal S256x16 .f32) (x2 : IVec S2x8192 32) (x3 : FVec Ideal S512 .f32)
  (x4 : FVec Ideal S1x256 .f32) (x5 : FVec Ideal S256 .f32) (x6 : FVec Ideal S256x256 .f32) (x7 : FVec Ideal S256 .f32)
  (x8 : FVec Ideal S256x496 .f32) (x9 : FVec Ideal S496 .f32)

/-- The ends of the edges are node numbers. -/
theorem nodes_of (h : (fn (F := Ideal) x0 x1 x2 x3 x4 x5 x6 x7 x8 x9).1 = fun _ => 1#1) (r : Fin 2) (e : Fin 8192) :
    ∃ n : Fin 512, x2 (ix2 r e) = BitVec.ofNat 32 n.val := by
  refine node_of_word _ (Eq.trans ?_ (congrFun h (ix2 r e)))
  pointwise [fn]

/-- The first layer's bias is zero. -/
theorem bias_of (h : (fn (F := Ideal) x0 x1 x2 x3 x4 x5 x6 x7 x8 x9).2.1 = fun _ => 1#1) (k : Fin 256) : x5 (ix1 k) = (0 : EReal) := by
  have e : Ideal.cmp .oeq (x5 (ix1 k)) (Ideal.ofBits .f32 0x00000000#32) = 1#1 := by
    refine Eq.trans ?_ (congrFun h (ix1 k))
    pointwise [fn]
  rw [Ideal.ofBits_zero_f32] at e
  by_contra hne
  simp [Ideal.cmp, hne] at e

/-- The state is finite. -/
theorem state_of (h : (fn (F := Ideal) x0 x1 x2 x3 x4 x5 x6 x7 x8 x9).2.2.1 = fun _ => 1#1) (b : Fin 256) (s : Fin 496) :
    (x0 (ix2 b s) : EReal) ≠ ⊤ ∧ (x0 (ix2 b s) : EReal) ≠ ⊥ := by
  refine finite_of_word _ (Eq.trans ?_ (congrFun h (ix2 b s)))
  pointwise [fn]
  rfl

/-- The action is finite. -/
theorem action_of (h : (fn (F := Ideal) x0 x1 x2 x3 x4 x5 x6 x7 x8 x9).2.2.2.1 = fun _ => 1#1) (b : Fin 256) (s : Fin 16) :
    (x1 (ix2 b s) : EReal) ≠ ⊤ ∧ (x1 (ix2 b s) : EReal) ≠ ⊥ := by
  refine finite_of_word _ (Eq.trans ?_ (congrFun h (ix2 b s)))
  pointwise [fn]
  rfl

/-- The mask is finite. -/
theorem mask_of (h : (fn (F := Ideal) x0 x1 x2 x3 x4 x5 x6 x7 x8 x9).2.2.2.2 = fun _ => 1#1) (s : Fin 512) :
    (x3 (ix1 s) : EReal) ≠ ⊤ ∧ (x3 (ix1 s) : EReal) ≠ ⊥ := by
  refine finite_of_word _ (Eq.trans ?_ (congrFun h (ix1 s)))
  pointwise [fn]
  rfl

end Cert.Within

end

end
-- ==== Proof.Agree.lean ====
module

public import proofs.«01_k».proof.Proof.KerArray
public import proofs.«01_k».proof.Proof.RefValue
public import proofs.«01_k».proof.Proof.Equation
public import proofs.«01_k».proof.Proof.Pre
public import proofs.«01_k».proof.Defs

/-! # The reference's result is the kernel's

What the reference computes of the kernel's arguments, once they are as the precondition says, is the kernel's array. -/

@[expose] public section

noncomputable section

namespace Cert.Agree

open Idealize.ShloMosaic Idealize.ShloMosaic.TcCoe
open Cert.KernelIdeal Cert.Graph

/-- The reference's result in the kernel's words, over any arrays: equal when the edges are `src e → dst e`, the first
    layer's bias is zero and the masked features are finite. -/
theorem arrays_eq (x0 : FVec Ideal S256x496 .f32) (x1 : FVec Ideal S256x16 .f32) (x2 : IVec S2x8192 32) (x3 : FVec Ideal S512 .f32)
    (x4 : FVec Ideal S1x256 .f32) (x5 : FVec Ideal S256 .f32) (x6 : FVec Ideal S256x256 .f32) (x7 : FVec Ideal S256 .f32)
    (x8 : FVec Ideal S256x496 .f32) (x9 : FVec Ideal S496 .f32) (src dst : Fin 8192 → Fin 512)
    (hs : ∀ e, x2 (ix2 0 e) = BitVec.ofNat 32 (src e).val) (hd : ∀ e, x2 (ix2 1 e) = BitVec.ofNat 32 (dst e).val)
    (hb : ∀ k, x5 (ix1 k) = (0 : EReal)) (hx : ∀ b s, masked x0 x1 x3 b s ≠ ⊤ ∧ masked x0 x1 x3 b s ≠ ⊥) (b : Fin 256) (o : Fin 496) :
    Cert.ReferenceIdeal.Read.val_main_v56 (F := Ideal) x0 x1 x2 x3 x4 x5 x6 x7 x8 x9 (ix2 b o)
      = readOut (fun j => (∑ n, hiddenK src dst (masked x0 x1 x3 b) x4 x6 x7 n j) * Ideal.ofBits .f32 0x3B000000#32) x8 x9 x0 b o := by
  rw [Cert.ReferenceAt.result_at x0 x1 x2 x3 x4 x5 x6 x7 x8 x9 src dst hs hd b o]
  simp only [mean_eq, hidden_eq src dst (masked x0 x1 x3 b) (fun s => (hx b s).1) (fun s => (hx b s).2) x4 x5 hb x6 x7]

variable (m : (ℓ : Loc nD τ sig) → Buf (Elt Ideal) ℓ) (c : Dev nD)

/-- What the reference computes of device `c`'s arguments. -/
abbrev reference : FVec Ideal S256x496 .f32 :=
  Cert.ReferenceIdeal.Read.val_main_v56 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-- The two results are equal when the edges are `src e → dst e`, the first layer's bias is zero and the masked features are
    finite. -/
theorem reference_eq (src dst : Fin 8192 → Fin 512)
    (hs : ∀ e, m ((c : Thread nD τ).loc main_arg2) (ix2 0 e) = BitVec.ofNat 32 (src e).val)
    (hd : ∀ e, m ((c : Thread nD τ).loc main_arg2) (ix2 1 e) = BitVec.ofNat 32 (dst e).val)
    (hb : ∀ k, m ((c : Thread nD τ).loc main_arg5) (ix1 k) = (0 : EReal))
    (hx : ∀ b s, masked (m ((c : Thread nD τ).loc main_arg0)) (m ((c : Thread nD τ).loc main_arg1)) (m ((c : Thread nD τ).loc main_arg3)) b s ≠ ⊤
      ∧ masked (m ((c : Thread nD τ).loc main_arg0)) (m ((c : Thread nD τ).loc main_arg1)) (m ((c : Thread nD τ).loc main_arg3)) b s ≠ ⊥) :
    reference m c = Cert.KernelAt.result m c src dst := by
  funext i
  obtain ⟨b, o, rfl⟩ : ∃ (b : Fin 256) (o : Fin 496), i = ix2 b o := ⟨i 0, i 1, funext fun a => by fin_cases a <;> rfl⟩
  exact arrays_eq _ _ _ _ _ _ _ _ _ _ src dst hs hd hb hx b o

/-- The precondition on device `c`'s arguments, read: there are edges as the two theorems above take them, and the
    reference's result is the kernel's for them. -/
theorem edges_of [Cert.Pre_within.Facts] (h : Cert.Pre_KernelIdeal_within m) :
    ∃ src dst : Fin 8192 → Fin 512,
      (∀ e, m ((c : Thread nD τ).loc main_arg2) (ix2 0 e) = BitVec.ofNat 32 (src e).val)
      ∧ (∀ e, m ((c : Thread nD τ).loc main_arg2) (ix2 1 e) = BitVec.ofNat 32 (dst e).val)
      ∧ reference m c = Cert.KernelAt.result m c src dst := by
  obtain ⟨h2, h5, h0, h1, h3⟩ := h c
  choose src hs using fun e => Cert.Within.nodes_of _ _ _ _ _ _ _ _ _ _ h2 0 e
  choose dst hd using fun e => Cert.Within.nodes_of _ _ _ _ _ _ _ _ _ _ h2 1 e
  exact ⟨src, dst, hs, hd, reference_eq m c src dst hs hd (Cert.Within.bias_of _ _ _ _ _ _ _ _ _ _ h5)
    (masked_finite _ _ _ (Cert.Within.state_of _ _ _ _ _ _ _ _ _ _ h0) (Cert.Within.action_of _ _ _ _ _ _ _ _ _ _ h1)
      (Cert.Within.mask_of _ _ _ _ _ _ _ _ _ _ h3))⟩

end Cert.Agree

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import Idealize.ShloMosaic.Lib.Quiescent
public import proofs.«01_k».proof.Proof.Agree

@[expose] public section

noncomputable section

namespace Cert.Proof

open Idealize.ShloMosaic Idealize.SL.Sem

/-- The reference runs, keeps its arguments, and takes no semaphore. -/
theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩)
    (Cert.ReferenceIdeal.Value.run m g)

/-- The kernel's result and the reference's are one array, within the precondition. -/
theorem equal : Cert.algebraic_KernelIdeal_ReferenceIdeal_pre_within (hKernelIdeal := Cert.KernelIdeal.Gen.facts)
    (hReferenceIdeal := Cert.ReferenceIdeal.Gen.facts) (hPre_within := Cert.Within.shapes) := fun m g m' g' hpre hargs => by
  haveI := Cert.Within.shapes
  choose src dst hs hd he using fun c => Cert.Agree.edges_of m c hpre
  refine ⟨fun c => Cert.KernelAt.result m c (src c) (dst c), ?_, ?_⟩
  · exact (θ_run Cert.KernelIdeal.defs _ _).mono
      (fun r h c => ⟨(h c).1.trans (Cert.KernelAt.array_eq m c (src c) (dst c) (hs c) (hd c)), (h c).2⟩)
      (Cert.KernelIdeal.Value.run_blocks m g)
  · refine (θ_run Cert.ReferenceIdeal.defs _ _).mono (fun r h c => ⟨?_, (h c).2⟩) (Cert.ReferenceIdeal.Value.run m' g')
    obtain ⟨a0, a1, a2, a3, a4, a5, a6, a7, a8, a9⟩ := hargs c
    refine (h c).1.trans ((Cert.ReferenceIdeal.Read.val_main_v56_eq m' c).trans ?_)
    rw [a0, a1, a2, a3, a4, a5, a6, a7, a8, a9]
    exact he c

/-- Every claim of the certificate. -/
theorem claim : Cert.Claim :=
  ⟨Cert.Kernel.Gen.facts, Cert.KernelIdeal.Gen.facts, Cert.ReferenceIdeal.Gen.facts, Cert.Within.shapes,
    fun m g _ => Cert.Kernel.Gen.frame m g, fun m g _ => Cert.KernelIdeal.Gen.frame m g, fun m g _ => Cert.KernelIdeal.Gen.frame m g,
    reference_frame, fun m g _ => reference_frame m g trivial, trivial, equal⟩

end Cert.Proof

end
